-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256x1 : Shape := ⟨3, ![512, 256, 1]⟩
abbrev S4096x256 : Shape := ⟨2, ![4096, 256]⟩
abbrev S4096x4096 : Shape := ⟨2, ![4096, 4096]⟩
abbrev S512x256 : Shape := ⟨2, ![512, 256]⟩
abbrev S256x4096 : Shape := ⟨2, ![256, 4096]⟩
abbrev S512x1x256 : Shape := ⟨3, ![512, 1, 256]⟩
abbrev S512x1x4096 : Shape := ⟨3, ![512, 1, 4096]⟩
abbrev S1x1x256 : Shape := ⟨3, ![1, 1, 256]⟩
abbrev S1x1x4096 : Shape := ⟨3, ![1, 1, 4096]⟩
abbrev S1x256 : Shape := ⟨2, ![1, 256]⟩
abbrev S1x4096 : Shape := ⟨2, ![1, 4096]⟩
abbrev S8x4096 : Shape := ⟨2, ![8, 4096]⟩
abbrev S1x2048 : Shape := ⟨2, ![1, 2048]⟩
abbrev S2048x4096 : Shape := ⟨2, ![2048, 4096]⟩
abbrev S512x4096 : Shape := ⟨2, ![512, 4096]⟩

abbrev nBuf : Space → Nat
  | .hbm => 12
  | .vmem => 12
  | .smem => 0
  | _ => 0

abbrev bufTy : (tb : Table) → Fin (tcTables nBuf tb) → BufTy
  | .hbm, ⟨0, _⟩ => ⟨S512x256x1, .f32⟩
  | .hbm, ⟨1, _⟩ => ⟨S4096x256, .f32⟩
  | .hbm, ⟨2, _⟩ => ⟨S4096x4096, .f32⟩
  | .hbm, ⟨3, _⟩ => ⟨S512x256, .f32⟩
  | .hbm, ⟨4, _⟩ => ⟨S256x4096, .f32⟩
  | .hbm, ⟨5, _⟩ => ⟨S256x4096, .bf16⟩
  | .hbm, ⟨6, _⟩ => ⟨S4096x4096, .f32⟩
  | .hbm, ⟨7, _⟩ => ⟨S4096x4096, .bf16⟩
  | .hbm, ⟨8, _⟩ => ⟨S512x1x256, .f32⟩
  | .hbm, ⟨9, _⟩ => ⟨S512x1x4096, .f32⟩
  | .hbm, ⟨10, _⟩ => ⟨S512x1x4096, .f32⟩
  | .hbm, ⟨11, _⟩ => ⟨S512x4096, .f32⟩
  | .local _ .vmem, ⟨0, _⟩ => ⟨S1x1x256, .f32⟩
  | .local _ .vmem, ⟨1, _⟩ => ⟨S1x1x256, .f32⟩
  | .local _ .vmem, ⟨2, _⟩ => ⟨S256x4096, .bf16⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x4096, .bf16⟩
  | .local _ .vmem, ⟨8, _⟩ => ⟨S1x1x4096, .f32⟩
  | .local _ .vmem, ⟨9, _⟩ => ⟨S1x1x4096, .f32⟩
  | .local _ .vmem, ⟨10, _⟩ => ⟨S1x4096, .f32⟩
  | .local _ .vmem, ⟨11, _⟩ => ⟨S8x4096, .f32⟩
  | _, _ => ⟨S512x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc1_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![512], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S512x256x1 : Shape := ⟨3, ![512, 256, 1]⟩
abbrev S4096x256 : Shape := ⟨2, ![4096, 256]⟩
abbrev S4096x4096 : Shape := ⟨2, ![4096, 4096]⟩
abbrev S_ : Shape := ⟨0, ![]⟩
abbrev S4096x1 : Shape := ⟨2, ![4096, 1]⟩
abbrev S512x4096 : Shape := ⟨2, ![512, 4096]⟩
abbrev S1x256x1 : Shape := ⟨3, ![1, 256, 1]⟩
abbrev S256x1 : Shape := ⟨2, ![256, 1]⟩
abbrev S4096 : Shape := ⟨1, ![4096]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S512x256x1, .f32⟩
  | .hbm, ⟨1, _⟩ => ⟨S4096x256, .f32⟩
  | .hbm, ⟨2, _⟩ => ⟨S4096x4096, .f32⟩
  | .hbm, ⟨3, _⟩ => ⟨S_, .f32⟩
  | .hbm, ⟨4, _⟩ => ⟨S4096x1, .f32⟩
  | .hbm, ⟨5, _⟩ => ⟨S_, .f32⟩
  | .hbm, ⟨6, _⟩ => ⟨S512x4096, .f32⟩
  | .hbm, ⟨7, _⟩ => ⟨S_, .i32⟩
  | .hbm, ⟨8, _⟩ => ⟨S512x256x1, .f32⟩
  | .hbm, ⟨9, _⟩ => ⟨S4096x256, .f32⟩
  | .hbm, ⟨10, _⟩ => ⟨S4096x4096, .f32⟩
  | .hbm, ⟨11, _⟩ => ⟨S_, .i32⟩
  | .hbm, ⟨12, _⟩ => ⟨S4096x1, .f32⟩
  | .hbm, ⟨13, _⟩ => ⟨S512x4096, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S1x256x1, .f32⟩
  | .hbm, ⟨19, _⟩ => ⟨S256x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096, .f32⟩
  | .hbm, ⟨25, _⟩ => ⟨S1x4096, .f32⟩
  | .hbm, ⟨26, _⟩ => ⟨S_, .i32⟩
  | .hbm, ⟨27, _⟩ => ⟨S512x4096, .f32⟩
  | .hbm, ⟨28, _⟩ => ⟨S_, .i32⟩
  | .hbm, ⟨29, _⟩ => ⟨S_, .i32⟩
  | _, _ => ⟨S512x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_c : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_while0c_c_6 : Ref sig .tc := ⟨.hbm, 14, rfl⟩
abbrev main_while0c_v3 : Ref sig .tc := ⟨.hbm, 15, rfl⟩
abbrev main_while0b_call0_c : Ref sig .tc := ⟨.hbm, 16, rfl⟩
abbrev main_while0b_call0_c_0 : Ref sig .tc := ⟨.hbm, 17, rfl⟩
abbrev main_while0b_call0_v0 : Ref sig .tc := ⟨.hbm, 18, rfl⟩
abbrev main_while0b_v3 : Ref sig .tc := ⟨.hbm, 19, rfl⟩
abbrev main_while0b_v4 : Ref sig .tc := ⟨.hbm, 20, rfl⟩
abbrev main_while0b_v5 : Ref sig .tc := ⟨.hbm, 21, rfl⟩
abbrev main_while0b_v6 : Ref sig .tc := ⟨.hbm, 22, rfl⟩
abbrev main_while0b_v7 : Ref sig .tc := ⟨.hbm, 23, rfl⟩
abbrev main_while0b_v8 : Ref sig .tc := ⟨.hbm, 24, rfl⟩
abbrev main_while0b_call1_v0 : Ref sig .tc := ⟨.hbm, 25, rfl⟩
abbrev main_while0b_call1_c : Ref sig .tc := ⟨.hbm, 26, rfl⟩
abbrev main_while0b_v9 : Ref sig .tc := ⟨.hbm, 27, rfl⟩
abbrev main_while0b_c_6 : Ref sig .tc := ⟨.hbm, 28, rfl⟩
abbrev main_while0b_v10 : Ref sig .tc := ⟨.hbm, 29, rfl⟩

abbrev nD : Nat := 1
abbrev τ : Topo := Topo.v7x

variable {F : FTy → Type} [FloatOps F]

abbrev main_while0_count : Scf.Loop 32 := ⟨0#32, 512#32, 1#32⟩
-- ==== Proof.Body.lean ====
/-
  The two kernel functions run on whole buffers: what each leaves in the buffers it is handed, for any float values.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Value
public import Idealize.ShloMosaic.Lib.VecWindow
public import Idealize.ShloMosaic.Lib.Tactic

@[expose] public section

set_option maxRecDepth 16384

noncomputable section

namespace Cert.Proof.Esn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`, whole, owned by core `c` at contents `x`. -/
abbrev own (c : Dev nD) {S : Shape} {e : EltTy} (M : Memref sig .tc .vmem S e) (x : S.Idx → Elt F e) : sProp 𝕄 :=
  owns (c : Thread nD τ) M fullShare x

/-- The projection kernel from `x`'s block and `W_in`'s transpose leaves `k0_pay1` of the two in the result's buffer. -/
theorem proj_run (c : Dev nD) (i : grid0.Coords)
    (M1 : Memref sig .tc .vmem S1x1x256 .f32) (h1 : M1.IsWhole) (M2 : Memref sig .tc .vmem S256x4096 .bf16) (h2 : M2.IsWhole)
    (M3 : Memref sig .tc .vmem S1x1x4096 .f32) (h3 : M3.IsWhole) (x : Vec F S1x1x256 .f32) (w : Vec F S256x4096 .bf16)
    (K : PUnit → sProp 𝕄) :
    iprop(own c M1 x ∗ own c M2 w ∗ (∃ d, own c M3 d) ∗ (iprop(own c M1 x ∗ own c M2 w ∗ own c M3 (k0_pay1 x w)) -∗ K ⟨⟩))
      ⊢ wp frame (wpE (defs₀ (F := F)) Variants.none c none) Set.univ (cc0__proj_kernel i M1 h1 M2 h2 M3 h3) K := by
  simp only [cc0__proj_kernel_eq_skeleton]; unfold cc0__proj_kernel_skel own owns
  iintro ⟨⟨%f1, %e1, H1⟩, ⟨%f2, %e2, H2⟩, ⟨%d3, %f3, -, H3⟩, Hk⟩
  obtain rfl := h1.eq_unread e1; obtain rfl := h2.eq_unread e2
  sl_exec
  sl_step
  iapply Hk
  isplitl [H1]
  · iexists _; isplitr; · ipureintro; exact h1.read_unread _
    iexact H1
  isplitl [H2]
  · iexists _; isplitr; · ipureintro; exact h2.read_unread _
    iexact H2
  iexists _; isplitr; swap; (· iexact H3); ipureintro
  rw [View.read_writes_full, View.readAt_full, View.readAt_full, e1, e2]

/-- The first 2048 rows of `W_res`'s transpose, -/
abbrev topRows (w : Vec F S4096x4096 .bf16) : Vec F S2048x4096 .bf16 :=
  VecWindow.window w ![0, 0] S2048x4096.size inb_S4096x4096_S2048x4096_0_0
/-- and the other 2048. -/
abbrev lowRows (w : Vec F S4096x4096 .bf16) : Vec F S2048x4096 .bf16 :=
  VecWindow.window w ![2048, 0] S2048x4096.size inb_S4096x4096_S2048x4096_2048_0

/-- The state the recurrent kernel computes from `u`'s block, the weights and the state before:
    `tanh (u + (s[:2048] · w[:2048] + s[2048:] · w[2048:]))`. -/
def nextState (u : Vec F S1x1x4096 .f32) (w : Vec F S4096x4096 .bf16) (s : FVec F S1x4096 .f32) : FVec F S1x4096 .f32 :=
  k1_pay5 u (k1_pay3 s (topRows w)) (k1_pay4 s (lowRows w))

/-- What is stored as the state is the computed state: the cast between is of a shape to itself. -/
theorem pay6_eq (u : Vec F S1x1x4096 .f32) (a b : Vec F S1x4096 .f32) : k1_pay6 u a b = k1_pay5 u a b :=
  shapeCast_self _ _

/-- The rectangle of the first half's rows, -/
abbrev rectTop : Rect S4096x4096 := Rect.unit ![0, 0] S2048x4096.size inb_S4096x4096_S2048x4096_0_0
/-- and of the second's. -/
abbrev rectLow : Rect S4096x4096 := Rect.unit ![2048, 0] S2048x4096.size inb_S4096x4096_S2048x4096_2048_0
/-- The rectangle of row 0 of the partial sums, -/
abbrev rect0 : Rect S8x4096 := Rect.unit ![0, 0] S1x4096.size inb_S8x4096_S1x4096_0_0
/-- and of row 1. -/
abbrev rect1 : Rect S8x4096 := Rect.unit ![1, 0] S1x4096.size inb_S8x4096_S1x4096_1_0

/-- The two rows share no element. -/
theorem rows_apart : Disjoint rect1.set rect0.toLoadRect.set := by
  rw [Finset.disjoint_left]
  intro i h1 h0
  obtain ⟨j1, -, e1⟩ := rect1.mem_set.mp h1 0
  obtain ⟨j0, hj0, e0⟩ := rect0.toLoadRect.mem_set.mp h0 0
  have a1 : (i 0).val = 1 + 1 * j1 := e1
  have a0 : (i 0).val = 0 + 1 * j0 := e0
  have a2 : j0 < 1 := hj0
  omega

/-- Row 1 of the partial sums is the piece stored last; -/
theorem row1_read (v : View sig .tc .vmem S8x4096 .f32) (a b : FVec F S1x4096 .f32) :
    v.readCov (Val := Elt F) [⟨rect1, a⟩, ⟨rect0, b⟩] rect1.toLoadRect = a :=
  View.readCov_cons_toLoadRect (Val := Elt F) v rect1 a [⟨rect0, b⟩]
/-- row 0 the one before it. -/
theorem row0_read (v : View sig .tc .vmem S8x4096 .f32) (a b : FVec F S1x4096 .f32) :
    v.readCov (Val := Elt F) [⟨rect1, a⟩, ⟨rect0, b⟩] rect0.toLoadRect = b :=
  (View.readCov_cons_of_disjoint (Val := Elt F) v ⟨rect1, a⟩ [⟨rect0, b⟩] rect0.toLoadRect rows_apart).trans
    (View.readCov_cons_toLoadRect (Val := Elt F) v rect0 b [])

/-- The stored state, from the two loaded rows: the halves of the weights are windows of them, and the rows the
    two partial sums. -/
theorem step_eq (M1 : Memref sig .tc .vmem S1x1x4096 .f32) (h1 : M1.IsWhole) (M2 : Memref sig .tc .vmem S4096x4096 .bf16)
    (h2 : M2.IsWhole) (v : View sig .tc .vmem S8x4096 .f32) (u : Vec F S1x1x4096 .f32) (w : Vec F S4096x4096 .bf16)
    (s : FVec F S1x4096 .f32) :
    k1_pay5 (M1.view.readAt (Elt F) (Rect.unit ![0, 0, 0] S1x1x4096.size inb_S1x1x4096_S1x1x4096_0_0_0).toLoadRect (h1.unread u))
        (v.readCov (Val := Elt F) [⟨rect1, k1_pay4 s (M2.view.readAt (Elt F) rectLow.toLoadRect (h2.unread w))⟩,
          ⟨rect0, k1_pay3 s (M2.view.readAt (Elt F) rectTop.toLoadRect (h2.unread w))⟩] rect0.toLoadRect)
        (v.readCov (Val := Elt F) [⟨rect1, k1_pay4 s (M2.view.readAt (Elt F) rectLow.toLoadRect (h2.unread w))⟩,
          ⟨rect0, k1_pay3 s (M2.view.readAt (Elt F) rectTop.toLoadRect (h2.unread w))⟩] rect1.toLoadRect)
      = nextState u w s := by
  rw [row0_read, row1_read, View.readAt_full, View.readAt_unit _ _ _ rfl inb_S4096x4096_S2048x4096_0_0,
    View.readAt_unit _ _ _ rfl inb_S4096x4096_S2048x4096_2048_0, h1.read_unread, h2.read_unread]
  rfl

/-- At the first point the recurrent kernel zeroes the state, then takes a step from it. -/
theorem esn_run_first (c : Dev nD) (i : grid1.Coords)
    (M1 : Memref sig .tc .vmem S1x1x4096 .f32) (h1 : M1.IsWhole) (M2 : Memref sig .tc .vmem S4096x4096 .bf16) (h2 : M2.IsWhole)
    (M3 : Memref sig .tc .vmem S1x1x4096 .f32) (h3 : M3.IsWhole) (M4 : Memref sig .tc .vmem S1x4096 .f32) (h4 : M4.IsWhole)
    (M5 : Memref sig .tc .vmem S8x4096 .f32) (h5 : M5.IsWhole)
    (hc : Scalar.cmpi .ne (Scalar.extui (Scalar.cmpi .eq (BitVec.ofNat 32 (i 0).val) 0#32)) 0#32 = 1#1)
    (u : Vec F S1x1x4096 .f32) (w : Vec F S4096x4096 .bf16)
    (K : PUnit → sProp 𝕄) :
    iprop(own c M1 u ∗ own c M2 w ∗ (∃ d, own c M3 d) ∗ (∃ d, own c M4 d) ∗ (∃ d, own c M5 d)
        ∗ (iprop(own c M1 u ∗ own c M2 w ∗ own c M3 (k1_pay1 (nextState u w k1_pay2)) ∗ own c M4 (nextState u w k1_pay2) ∗ (∃ d, own c M5 d)) -∗ K ⟨⟩))
      ⊢ wp frame (wpE (defs₀ (F := F)) Variants.none c none) Set.univ (cc1__esn_kernel i M1 h1 M2 h2 M3 h3 M4 h4 M5 h5) K := by
  simp only [cc1__esn_kernel_eq_skeleton]; unfold cc1__esn_kernel_skel
  simp only [k1_part1_eq_skeleton]
  unfold own owns
  iintro ⟨⟨%f1, %e1, H1⟩, ⟨%f2, %e2, H2⟩, ⟨%d3, %f3, -, H3⟩, ⟨%d4, %f4, -, H4⟩, ⟨%d5, %f5, -, H5⟩, Hk⟩
  obtain rfl := h1.eq_unread e1; obtain rfl := h2.eq_unread e2
  sl_exec (disch := first | sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; swap; (· iexact H3); ipureintro
    refine (View.read_writes_full M3.view _ _ _ _).trans ?_
    delta esn_run_first.sl.r esn_run_first.sl.v20 esn_run_first.sl.v21 esn_run_first.sl.H5_2
    rw [show esn_run_first.sl.v3 (F := F) c M4 = k1_pay2 from View.readCov_full M4.view _ _ _ _]
    exact congrArg k1_pay1 (step_eq M1 h1 M2 h2 M5.view u w _)
  isplitl [H4]
  · iexists _; isplitr; swap; (· iexact H4); ipureintro
    delta esn_run_first.sl.v20 esn_run_first.sl.v21 esn_run_first.sl.H5_2
    rw [show esn_run_first.sl.v3 (F := F) c M4 = k1_pay2 from View.readCov_full M4.view _ _ _ _]
    refine (View.read_writes_full M4.view _ _ _ _).trans ((pay6_eq _ _ _).trans ?_)
    exact step_eq M1 h1 M2 h2 M5.view u w _
  iexists _; iexists _; isplitr; swap; (· iexact H5); ipureintro; rfl

/-- At every other point it takes a step from the state it finds. -/
theorem esn_run_next (c : Dev nD) (i : grid1.Coords)
    (M1 : Memref sig .tc .vmem S1x1x4096 .f32) (h1 : M1.IsWhole) (M2 : Memref sig .tc .vmem S4096x4096 .bf16) (h2 : M2.IsWhole)
    (M3 : Memref sig .tc .vmem S1x1x4096 .f32) (h3 : M3.IsWhole) (M4 : Memref sig .tc .vmem S1x4096 .f32) (h4 : M4.IsWhole)
    (M5 : Memref sig .tc .vmem S8x4096 .f32) (h5 : M5.IsWhole)
    (hc : ¬ Scalar.cmpi .ne (Scalar.extui (Scalar.cmpi .eq (BitVec.ofNat 32 (i 0).val) 0#32)) 0#32 = 1#1)
    (u : Vec F S1x1x4096 .f32) (w : Vec F S4096x4096 .bf16) (s : FVec F S1x4096 .f32)
    (K : PUnit → sProp 𝕄) :
    iprop(own c M1 u ∗ own c M2 w ∗ (∃ d, own c M3 d) ∗ own c M4 s ∗ (∃ d, own c M5 d)
        ∗ (iprop(own c M1 u ∗ own c M2 w ∗ own c M3 (k1_pay1 (nextState u w s)) ∗ own c M4 (nextState u w s) ∗ (∃ d, own c M5 d)) -∗ K ⟨⟩))
      ⊢ wp frame (wpE (defs₀ (F := F)) Variants.none c none) Set.univ (cc1__esn_kernel i M1 h1 M2 h2 M3 h3 M4 h4 M5 h5) K := by
  simp only [cc1__esn_kernel_eq_skeleton]; unfold cc1__esn_kernel_skel
  simp only [k1_part1_eq_skeleton]
  unfold own owns
  iintro ⟨⟨%f1, %e1, H1⟩, ⟨%f2, %e2, H2⟩, ⟨%d3, %f3, -, H3⟩, ⟨%f4, %e4, H4⟩, ⟨%d5, %f5, -, H5⟩, Hk⟩
  obtain rfl := h1.eq_unread e1; obtain rfl := h2.eq_unread e2; obtain rfl := h4.eq_unread e4
  sl_exec (disch := first | sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; swap; (· iexact H3); ipureintro
    refine (View.read_writes_full M3.view _ _ _ _).trans ?_
    delta esn_run_next.sl.r esn_run_next.sl.v20 esn_run_next.sl.v21 esn_run_next.sl.H5_2
    rw [View.readAt_full M4.view, h4.read_unread]
    exact congrArg k1_pay1 (step_eq M1 h1 M2 h2 M5.view u w _)
  isplitl [H4]
  · iexists _; isplitr; swap; (· iexact H4); ipureintro
    delta esn_run_next.sl.v20 esn_run_next.sl.v21 esn_run_next.sl.H5_2
    rw [View.readAt_full M4.view, h4.read_unread]
    refine (View.read_writes_full M4.view _ _ _ _).trans ((pay6_eq _ _ _).trans ?_)
    exact step_eq M1 h1 M2 h2 M5.view u w _
  iexists _; iexists _; isplitr; swap; (· iexact H5); ipureintro; rfl

end Cert.Proof.Esn

end
-- ==== Proof.Region.lean ====
/- One pipelined call of `@main` as a segment, given its proof data: both calls of the program are entered from the
   unscoped buffers at one valuation and leave them at another. -/
module

public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.FrameTail

@[expose] public section

set_option maxRecDepth 16384

noncomputable section

namespace Cert.Proof.Esn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg arrRef ucRefs unscopedRest)

variable {F : FTy → Type} [FloatOps F]

local notation "𝕄" => MT nD τ sig Unit (Elt F) ℕ (UR sig nD τ) ℕ

/-- No level is assigned: the calls wait on nothing but their own transfers. -/
abbrev levs : GSem nD τ sig → Finset Unit := fun _ => ∅
/-- The levels, all zero. -/
abbrev lev : GSem nD τ sig → Unit → ℕ := fun _ _ => 0

/-- What a core keeps beside its buffers between two items: the generator register, and that it owes nothing. -/
def idle (c : Dev nD) : sProp 𝕄 :=
  iprop((∃ r, prngReg c r) ∗ ∃ W, owes (c : Thread nD τ) (0 : CellTallies nD τ sig Unit) W)

/-- A core's unscoped buffers at the valuation `V`, beside `idle`. -/
def at_ (V : Dev nD → Valuation τ sig (Elt F)) (c : Dev nD) : sProp 𝕄 :=
  iprop(StableHlo.held (c : Thread nD τ) (ucRefs τ sig) (V c) ∗ idle c)

-- the entry's and the exit's lemmas are met at the pinned configuration, which takes unfolding plain definitions
set_option backward.isDefEq.respectTransparency.types false in
/-- A pipelined call as a segment from `V` to `V'`: its arrays enter at `V`'s contents and leave at `V'`'s, every other
    unscoped buffer is `V`'s throughout, and the scoped buffers it does not stage go in and come back. -/
def region (dats : (p : Fin 2) → (c : Dev nD) → Dat τ (Elt F) Unit ℕ (UR sig nD τ) ℕ (cfgs p) c) (p : Fin 2)
    (kit : Pipeline.PLaunchFacts (nD := nD) (τ := τ) (pcfgs (F := F)) p) (V V' : Dev nD → Valuation τ sig (Elt F))
    (hbody : ∀ c, Pipeline.BodyObligationLoose (dats p c) defs₀ Variants.none () Set.univ)
    (hq : ∀ c w, (dats p c).share w = fullShare) (howed : ∀ c t, (dats p c).owed t = 0)
    (hrec : ∀ c t, (dats p c).recorded t = Set.univ)
    (hA : ∀ c w, (dats p c).A w = V c (Proc.devRef .tc (arrRef (cfgs p).spec w)))
    (hV : ∀ c w, (dats p c).arrAt w (cfgs p).N = V' c (Proc.devRef .tc (arrRef (cfgs p).spec w)))
    (hrest : ∀ c (b : Ref sig .tc), (∀ w, b ≠ arrRef (cfgs p).spec w) → V' c (Proc.devRef .tc b) = V c (Proc.devRef .tc b))
    (hin : ∀ c, Pipeline.scopedRest (cfgs p).spec c ⊢ (dats p c).Φ 0)
    (hout : ∀ c, (dats p c).Φ (Fin.last (cfgs p).N) ⊢ Pipeline.scopedRest (cfgs p).spec c) :
    RegionSeg (pcfgs (F := F)) (adm (F := F)) dats () defs₀ Variants.none levs lev p where
  win := kit.win.to₀
  block_pos := kit.block_pos
  stage_whole := kit.stage_whole
  K := PEmpty
  osem := fun k => k.elim
  ho := Pipeline.OwnSemFacts.none _
  hbody := hbody
  hwaits := Pipeline.hwaits_of_owed_zero (pcfgs (F := F)) (adm (F := F)) dats () levs lev p howed
  pre := at_ V
  post := at_ V'
  X := fun _ => iprop(emp)
  Y := fun _ => iprop(emp)
  Z := fun c => iprop(unscopedRest (Ix := Unit) (Name := ℕ) (U := UR sig nD τ) (Lvl := ℕ) (cfgs p).spec c (fun b => V c (Proc.devRef .tc b))
    ∗ (∃ r, prngReg c r))
  hentry := fun c => by
    unfold at_ idle
    rw [Pipeline.ownSems0_none, ← Pipeline.unscopedBufs_held (Ix := Unit) (Name := ℕ) (U := UR sig nD τ) (Lvl := ℕ) c (V c)]
    have hsplit := Pipeline.arrays_of_unscopedBufs (p := p) (pcfgs (F := F)) (adm (F := F)) dats kit.win kit.arr_whole c (hq c)
      (fun b => V c (Proc.devRef .tc b)) (fun w => hA c w)
    iintro ⟨⟨Hub, Hp, ⟨%W, HO⟩⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin
      rw [howed c 0]
      iexists W; isplitr
      · ipureintro
        intro x _
        exact Or.inl (by rw [hrec c 0]; trivial)
      iexact HO
    isplitr; · iempintro
    isplitl [Hrest]; · iexact Hrest
    iexact Hp
  hin := fun c => (show _ ⊢ Pipeline.scopedRest (cfgs p).spec c from by iintro ⟨-, -, Hr⟩; iexact Hr).trans (hin c)
  hout := fun c => (hout c).trans (by
    rw [Pipeline.ownSems0_none]
    iintro Hr
    isplitr; · iempintro
    isplitr; · iempintro
    iexact Hr)
  hexit := fun c => by
    have hjoin := Pipeline.unscopedBufs_of_arrays (p := p) (pcfgs (F := F)) (adm (F := F)) (Ix := Unit) (Name := ℕ) (U := UR sig nD τ) (Lvl := ℕ)
      kit.win kit.arr_whole c dats (hq c)
      (fun b => V c (Proc.devRef .tc b)) (fun b => V' c (Proc.devRef .tc b)) ((dats p c).arrAt · (cfgs p).N)
      (fun w => hV c w)
      (fun b hb => hrest c b fun w h => hb (h ▸ Finset.mem_image.mpr ⟨w, Finset.mem_univ _, rfl⟩))
    unfold at_ idle
    rw [← Pipeline.unscopedBufs_held (Ix := Unit) (Name := ℕ) (U := UR sig nD τ) (Lvl := ℕ) c (V' c)]
    iintro ⟨Ha, HO, -, Hrest, Hp⟩
    imodintro
    isplitl [Ha Hrest]
    · iapply hjoin; isplitl [Ha] <;> iassumption
    isplitl [Hp]; · iexact Hp
    unfold Dat.owesAt Pipeline.owesWithin
    rw [howed c (Fin.last _)]
    icases HO with ⟨%W, -, HO⟩; iexists W; iexact HO

end Cert.Proof.Esn

end
-- ==== Proof.Calls.lean ====
/- The program's two pipelined calls: what each point's body leaves, the proof data, and the calls as segments. -/
module

public import proofs.«01_k».proof.Proof.Body
public import proofs.«01_k».proof.Proof.Region
public import Idealize.ShloMosaic.Lib.WordCmp

@[expose] public section

set_option maxRecDepth 16384

noncomputable section

namespace Cert.Proof.Esn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg arrRef ucRefs unscopedRest)

variable {F : FTy → Type} [FloatOps F]

local notation "𝕄" => MT nD τ sig Unit (Elt F) ℕ (UR sig nD τ) ℕ

/-! ## The projection -/

/-- Window `w`'s block at point `t` of the projection, of an array as the valuation `V` has it. -/
def block0 (V : Valuation τ sig (Elt F)) (w : Fin 3) (t : Fin cfg0.N) :
    ((cfg0.win w).xblock (cfg0.grid.coords t)).Idx → Elt F (cfg0.win w).elt :=
  ((cfg0.win w).blk t).view.read (Elt F) (V (Proc.devRef .tc (arrRef spec0 w)))

/-- The projection's proof data from the valuation `V`: a point leaves the product of its row of `x` and the weights. -/
def dat0 (V : Dev nD → Valuation τ sig (Elt F)) (c : Dev nD) : Dat τ (Elt F) Unit ℕ (UR sig nD τ) ℕ cfg0 c where
  A w := V c (Proc.devRef .tc (arrRef spec0 w))
  after w t := match w with
    | ⟨0, _⟩ => block0 (V c) 0 t
    | ⟨1, _⟩ => block0 (V c) 1 t
    | ⟨2, _⟩ => k0_pay1 (block0 (V c) 0 t) (block0 (V c) 1 t)
  Φ _ := Pipeline.scopedRest spec0 c
  q _ := fullShare
  owed _ := 0

section Proj
variable (V : Dev nD → Valuation τ sig (Elt F)) (c : Dev nD)

/-- The arrays are `V`'s. -/
theorem dat0_A (w : Fin cfg0.W) : (dat0 V c).A w = V c (Proc.devRef .tc (arrRef spec0 w)) := by dsimp only [dat0]
/-- A point leaves its row of `x` as it was, -/
theorem dat0_after0 (t : Fin cfg0.N) : (dat0 V c).after 0 t = block0 (V c) 0 t := by dsimp only [dat0]
/-- and the weights; -/
theorem dat0_after1 (t : Fin cfg0.N) : (dat0 V c).after 1 t = block0 (V c) 1 t := by dsimp only [dat0]
/-- the result's buffer it leaves at the product. -/
theorem dat0_after2 (t : Fin cfg0.N) : (dat0 V c).after 2 t = k0_pay1 (block0 (V c) 0 t) (block0 (V c) 1 t) := by dsimp only [dat0]

/-- A point finds its row of `x`, -/
theorem dat0_before0 (t : Fin cfg0.N) (d) : (dat0 V c).before 0 t d = block0 (V c) 0 t :=
  ((dat0 V c).before_in_eq_fetched 0 rfl (fun _ => rfl) (fun _ _ _ => rfl)
    (fun t => by rw [dat0_after0]; unfold Dat.blockOf block0; rw [dat0_A]) t d).trans
    (by unfold Dat.fetched Dat.blockOf block0; rw [dat0_A]; rfl)
/-- and the weights. -/
theorem dat0_before1 (t : Fin cfg0.N) (d) : (dat0 V c).before 1 t d = block0 (V c) 1 t :=
  ((dat0 V c).before_in_eq_fetched 1 rfl (fun _ => rfl) (fun _ _ _ => rfl)
    (fun t => by rw [dat0_after1]; unfold Dat.blockOf block0; rw [dat0_A]) t d).trans
    (by unfold Dat.fetched Dat.blockOf block0; rw [dat0_A]; rfl)

/-- The body the pipeline calls at a point is the kernel at that point's buffers. -/
theorem row0 (t : Fin cfg0.N) : defs₀ (F := F) .tc cfg0.body (cfg0.bodyArgs t (cfg0.slots t)) = bodyAt0 t := by
  unfold defs₀; rw [Defs.onTc_tc]

/-- One point of the projection. -/
theorem point0 (t : Fin cfg0.N) :
    iprop((dat0 V c).Φ t.castSucc ∗ (dat0 V c).owesAt () t.castSucc
        ∗ (∃ d, own c (st0_0 t) ((dat0 V c).before 0 t d)) ∗ (∃ d, own c (st0_1 t) ((dat0 V c).before 1 t d))
        ∗ (∃ d, own c (st0_2 t) ((dat0 V c).before 2 t d)))
      ⊢ wp frame (wpE (defs₀ (F := F)) Variants.none c none) Set.univ (bodyAt0 t) (fun _ =>
        iprop((dat0 V c).Φ t.succ ∗ (dat0 V c).owesAt () t.succ
          ∗ own c (st0_0 t) ((dat0 V c).after 0 t) ∗ own c (st0_1 t) ((dat0 V c).after 1 t) ∗ own c (st0_2 t) ((dat0 V c).after 2 t))) := by
  simp only [dat0_before0, dat0_before1]
  rw [show (dat0 V c).owesAt () t.succ = (dat0 V c).owesAt () t.castSucc from rfl,
    show (dat0 V c).Φ t.succ = (dat0 V c).Φ t.castSucc from rfl, dat0_after0, dat0_after1, dat0_after2]
  iintro ⟨HΦ, Ho, ⟨%d0, H0⟩, ⟨%d1, H1⟩, ⟨%d2, H2⟩⟩
  iapply (proj_run c (grid0.coords t) _ _ _ _ _ _ (block0 (V c) 0 t) (block0 (V c) 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The projection's body, at every point. -/
theorem body0 : Pipeline.BodyObligationLoose (dat0 V c) (defs₀ (F := F)) Variants.none () Set.univ := by
  have h : Pipeline.BodyObligation (dat0 V c) (defs₀ (F := F)) Variants.none () Set.univ := fun t => by
    rw [bigSep_W0, bigSep_W0, row0]
    exact triple_restated (point0 V c t) rfl .rfl fun _ => .rfl
  exact h.loose

end Proj

/-! ## The recurrence -/

/-- Window `w`'s block at point `t` of the recurrence, of an array as the valuation `V` has it. -/
def block1 (V : Valuation τ sig (Elt F)) (w : Fin 3) (t : Fin cfg1.N) :
    ((cfg1.win w).xblock (cfg1.grid.coords t)).Idx → Elt F (cfg1.win w).elt :=
  ((cfg1.win w).blk t).view.read (Elt F) (V (Proc.devRef .tc (arrRef spec1 w)))

/-- The state before point `n`: zero at first, then a step from the state before on the point's row. -/
def stateAt (V : Valuation τ sig (Elt F)) : ℕ → FVec F S1x4096 .f32
  | 0 => k1_pay2
  | n + 1 => if h : n < cfg1.N then nextState (block1 V 0 ⟨n, h⟩) (block1 V 1 ⟨n, h⟩) (stateAt V n) else stateAt V n

/-- A point's step. -/
theorem stateAt_succ (V : Valuation τ sig (Elt F)) (t : Fin cfg1.N) :
    stateAt V (t.val + 1) = nextState (block1 V 0 t) (block1 V 1 t) (stateAt V t.val) := dif_pos t.isLt

/-- The scoped buffers of the recurrence that it does not stage, the state's holding `s`. -/
def holding (c : Dev nD) (s : FVec F S1x4096 .f32) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ own c (Memref.whole cc1_scratch0) s ∗ (∃ d, own c (Memref.whole cc1_scratch1) d))

/-- Those buffers are the scoped rest, the state at some contents. -/
theorem rest1_eq (c : Dev nD) : (Pipeline.scopedRest spec1 c : sProp 𝕄) ⊣⊢ iprop(∃ s, holding c s) := by
  rw [scopedRest1_eq]
  unfold holding
  simp only [own, owns_whole]
  constructor
  · iintro ⟨H1, H2, H3, H4, H5, ⟨%s, H6⟩, H7⟩
    iexists s
    isplitl [H1]; · iexact H1
    isplitl [H2]; · iexact H2
    isplitl [H3]; · iexact H3
    isplitl [H4]; · iexact H4
    isplitl [H5]; · iexact H5
    isplitl [H6]; · iexact H6
    iexact H7
  · iintro ⟨%s, H1, H2, H3, H4, H5, H6, H7⟩
    isplitl [H1]; · iexact H1
    isplitl [H2]; · iexact H2
    isplitl [H3]; · iexact H3
    isplitl [H4]; · iexact H4
    isplitl [H5]; · iexact H5
    isplitl [H6]; · iexists s; iexact H6
    iexact H7

/-- What holds between points: before the first the scratch is at anything, then the state's is at the state. -/
def between (V : Valuation τ sig (Elt F)) (c : Dev nD) : (n : ℕ) → n ≤ cfg1.N → sProp 𝕄
  | 0, _ => iprop(∃ s, holding c s)
  | n + 1, _ => holding c (stateAt V (n + 1))

/-- The recurrence's proof data from the valuation `V`: a point leaves the new state in the result's buffer. -/
def dat1 (V : Dev nD → Valuation τ sig (Elt F)) (c : Dev nD) : Dat τ (Elt F) Unit ℕ (UR sig nD τ) ℕ cfg1 c where
  A w := V c (Proc.devRef .tc (arrRef spec1 w))
  after w t := match w with
    | ⟨0, _⟩ => block1 (V c) 0 t
    | ⟨1, _⟩ => block1 (V c) 1 t
    | ⟨2, _⟩ => k1_pay1 (stateAt (V c) (t.val + 1))
  Φ t := between (V c) c t.val (Nat.le_of_lt_succ t.isLt)
  q _ := fullShare
  owed _ := 0

section Rec
variable (V : Dev nD → Valuation τ sig (Elt F)) (c : Dev nD)

/-- The arrays are `V`'s. -/
theorem dat1_A (w : Fin cfg1.W) : (dat1 V c).A w = V c (Proc.devRef .tc (arrRef spec1 w)) := by dsimp only [dat1]
/-- A point leaves its row of the projection as it was, -/
theorem dat1_after0 (t : Fin cfg1.N) : (dat1 V c).after 0 t = block1 (V c) 0 t := by dsimp only [dat1]
/-- and the weights; -/
theorem dat1_after1 (t : Fin cfg1.N) : (dat1 V c).after 1 t = block1 (V c) 1 t := by dsimp only [dat1]
/-- the result's buffer it leaves at the new state. -/
theorem dat1_after2 (t : Fin cfg1.N) : (dat1 V c).after 2 t = k1_pay1 (stateAt (V c) (t.val + 1)) := by dsimp only [dat1]
/-- What holds before a point. -/
theorem dat1_Φ (t : Fin cfg1.N) : (dat1 V c).Φ t.castSucc = between (V c) c t.val (Nat.le_of_lt t.isLt) := by
  dsimp only [dat1]; exact Dat.Φ_castSucc (between (V c) c) t

/-- A point finds its row of the projection, -/
theorem dat1_before0 (t : Fin cfg1.N) (d) : (dat1 V c).before 0 t d = block1 (V c) 0 t :=
  ((dat1 V c).before_in_eq_fetched 0 rfl (fun _ => rfl) (fun _ _ _ => rfl)
    (fun t => by rw [dat1_after0]; unfold Dat.blockOf block1; rw [dat1_A]) t d).trans
    (by unfold Dat.fetched Dat.blockOf block1; rw [dat1_A]; rfl)
/-- and the weights. -/
theorem dat1_before1 (t : Fin cfg1.N) (d) : (dat1 V c).before 1 t d = block1 (V c) 1 t :=
  ((dat1 V c).before_in_eq_fetched 1 rfl (fun _ => rfl) (fun _ _ _ => rfl)
    (fun t => by rw [dat1_after1]; unfold Dat.blockOf block1; rw [dat1_A]) t d).trans
    (by unfold Dat.fetched Dat.blockOf block1; rw [dat1_A]; rfl)

/-- The body the pipeline calls at a point is the kernel at that point's buffers. -/
theorem row1 (t : Fin cfg1.N) : defs₀ (F := F) .tc cfg1.body (cfg1.bodyArgs t (cfg1.slots t)) = bodyAt1 t := by
  unfold defs₀; rw [Defs.onTc_tc]

/-- The kernel's test holds at the first point alone. -/
theorem first_iff (t : Fin grid1.N) :
    Scalar.cmpi .ne (Scalar.extui (Scalar.cmpi .eq (BitVec.ofNat 32 (grid1.coords t 0).val) 0#32)) 0#32 = 1#1 ↔ t.val = 0 := by
  have ht : t.val < 512 := Nat.lt_of_lt_of_eq t.isLt N_1
  have e0 : (grid1.coords t 0).val = t.val / 1 % 512 := Pipeline.Grid.coords_val t 0 (by decide) rfl
  simp only [e0]
  word_cmp

/-- One point of the recurrence. -/
theorem point1 (t : Fin cfg1.N) :
    iprop((dat1 V c).Φ t.castSucc ∗ (dat1 V c).owesAt () t.castSucc
        ∗ (∃ d, own c (st1_0 t) ((dat1 V c).before 0 t d)) ∗ (∃ d, own c (st1_1 t) ((dat1 V c).before 1 t d))
        ∗ (∃ d, own c (st1_2 t) ((dat1 V c).before 2 t d)))
      ⊢ wp frame (wpE (defs₀ (F := F)) Variants.none c none) Set.univ (bodyAt1 t) (fun _ =>
        iprop((dat1 V c).Φ t.succ ∗ (dat1 V c).owesAt () t.succ
          ∗ own c (st1_0 t) ((dat1 V c).after 0 t) ∗ own c (st1_1 t) ((dat1 V c).after 1 t) ∗ own c (st1_2 t) ((dat1 V c).after 2 t))) := by
  simp only [dat1_before0, dat1_before1]
  rw [show (dat1 V c).owesAt () t.succ = (dat1 V c).owesAt () t.castSucc from rfl,
    show (dat1 V c).Φ t.succ = holding c (stateAt (V c) (t.val + 1)) from rfl, dat1_after0, dat1_after1, dat1_after2, dat1_Φ, stateAt_succ]
  obtain ⟨n, hn⟩ := t
  cases n with
  | zero =>
    unfold between holding
    iintro ⟨⟨%s, Ha, Hb, Hc, Hd, He, HS, HT⟩, Ho, ⟨%d0, H0⟩, ⟨%d1, H1⟩, ⟨%d2, H2⟩⟩
    iapply (esn_run_first c (grid1.coords ⟨0, hn⟩) _ _ _ _ _ _ _ _ _ _ ((first_iff ⟨0, hn⟩).mpr rfl) (block1 (V c) 0 ⟨0, hn⟩) (block1 (V c) 1 ⟨0, hn⟩) _)
    isplitl [H0]; · iexact H0
    isplitl [H1]; · iexact H1
    isplitl [H2]; · iexists _; iexact H2
    isplitl [HS]; · iexists _; iexact HS
    isplitl [HT]; · iexact HT
    iintro ⟨H0, H1, H2, HS, HT⟩
    isplitl [Ha Hb Hc Hd He HS HT]
    · isplitl [Ha]; · iexact Ha
      isplitl [Hb]; · iexact Hb
      isplitl [Hc]; · iexact Hc
      isplitl [Hd]; · iexact Hd
      isplitl [He]; · iexact He
      isplitl [HS]; · iexact HS
      iexact HT
    isplitl [Ho]; · iexact Ho
    isplitl [H0]; · iexact H0
    isplitl [H1]; · iexact H1
    iexact H2
  | succ n =>
    unfold between holding
    iintro ⟨⟨Ha, Hb, Hc, Hd, He, HS, HT⟩, Ho, ⟨%d0, H0⟩, ⟨%d1, H1⟩, ⟨%d2, H2⟩⟩
    iapply (esn_run_next c (grid1.coords ⟨n + 1, hn⟩) _ _ _ _ _ _ _ _ _ _ (fun h => absurd ((first_iff ⟨n + 1, hn⟩).mp h) (Nat.succ_ne_zero n)) (block1 (V c) 0 ⟨n + 1, hn⟩) (block1 (V c) 1 ⟨n + 1, hn⟩) (stateAt (V c) (n + 1)) _)
    isplitl [H0]; · iexact H0
    isplitl [H1]; · iexact H1
    isplitl [H2]; · iexists _; iexact H2
    isplitl [HS]; · iexact HS
    isplitl [HT]; · iexact HT
    iintro ⟨H0, H1, H2, HS, HT⟩
    isplitl [Ha Hb Hc Hd He HS HT]
    · isplitl [Ha]; · iexact Ha
      isplitl [Hb]; · iexact Hb
      isplitl [Hc]; · iexact Hc
      isplitl [Hd]; · iexact Hd
      isplitl [He]; · iexact He
      isplitl [HS]; · iexact HS
      iexact HT
    isplitl [Ho]; · iexact Ho
    isplitl [H0]; · iexact H0
    isplitl [H1]; · iexact H1
    iexact H2

/-- The recurrence's body, at every point. -/
theorem body1 : Pipeline.BodyObligationLoose (dat1 V c) (defs₀ (F := F)) Variants.none () Set.univ := by
  have h : Pipeline.BodyObligation (dat1 V c) (defs₀ (F := F)) Variants.none () Set.univ := fun t => by
    rw [bigSep_W1, bigSep_W1, row1]
    exact triple_restated (point1 V c t) rfl .rfl fun _ => .rfl
  exact h.loose

/-- The scratch at the call's start is what holds before the first point, -/
theorem enter1 : (Pipeline.scopedRest spec1 c : sProp 𝕄) ⊢ (dat1 V c).Φ 0 := (rest1_eq c).1
/-- and what holds after the last point gives it back. -/
theorem leave1 : (dat1 V c).Φ (Fin.last cfg1.N) ⊢ (Pipeline.scopedRest spec1 c : sProp 𝕄) := by
  have h : holding c (stateAt (V c) (511 + 1)) ⊢ (iprop(∃ s, holding c s) : sProp 𝕄) := by
    iintro H
    iexists _; iexact H
  rw [show (dat1 V c).Φ (Fin.last cfg1.N) = holding c (stateAt (V c) (511 + 1)) from rfl]
  exact h.trans (rest1_eq c).2

end Rec

end Cert.Proof.Esn

end
-- ==== Proof.Run.lean ====
/- The whole program's run: the two calls between the host's operations, from any memory, for any float values. -/
module

public import proofs.«01_k».proof.Proof.Calls

@[expose] public section

set_option maxRecDepth 16384

noncomputable section

namespace Cert.Proof.Esn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg arrRef ucRefs unscopedRest)

variable {F : FTy → Type} [FloatOps F]

local notation "𝕄" => MT nD τ sig Unit (Elt F) ℕ (UR sig nD τ) ℕ

variable (m : (ℓ : Loc nD τ sig) → Buf (Elt F) ℓ)

/-- The unscoped buffers after the projection: its result's array at what its points left there. -/
def afterProj (c : Dev nD) : Valuation τ sig (Elt F) :=
  Function.update (V1 m c) (Proc.devRef .tc main_v6) ((dat0 (V1 m) c).arrAt 2 cfg0.N)
/-- The unscoped buffers after the recurrence. -/
def afterRec (c : Dev nD) : Valuation τ sig (Elt F) :=
  Function.update (afterProj m c) (Proc.devRef .tc main_v7) ((dat1 (afterProj m) c).arrAt 2 cfg1.N)
/-- The unscoped buffers at the end. -/
def atEnd (c : Dev nD) : Valuation τ sig (Elt F) := StableHlo.after hostOps2 (afterRec m c)

/-- The projection leaves every buffer but its result's. -/
theorem afterProj_of (c : Dev nD) (b : Ref sig .tc) (h : b ≠ main_v6) :
    afterProj m c (Proc.devRef .tc b) = V1 m c (Proc.devRef .tc b) :=
  Function.update_of_ne (StableHlo.devRef_ne_of_ne h) _ _
/-- Its result's holds what its points left. -/
theorem afterProj_v6 (c : Dev nD) : afterProj m c (Proc.devRef .tc main_v6) = (dat0 (V1 m) c).arrAt 2 cfg0.N :=
  Function.update_self _ _ _
/-- The recurrence leaves every buffer but its result's. -/
theorem afterRec_of (c : Dev nD) (b : Ref sig .tc) (h : b ≠ main_v7) :
    afterRec m c (Proc.devRef .tc b) = afterProj m c (Proc.devRef .tc b) :=
  Function.update_of_ne (StableHlo.devRef_ne_of_ne h) _ _
/-- Its result's holds what its points left. -/
theorem afterRec_v7 (c : Dev nD) : afterRec m c (Proc.devRef .tc main_v7) = (dat1 (afterProj m) c).arrAt 2 cfg1.N :=
  Function.update_self _ _ _
/-- Nothing writes an argument. -/
theorem atEnd_of (c : Dev nD) (b : Ref sig .tc) (h8 : b ∉ hostOps2_W) (h7 : b ≠ main_v7) (h6 : b ≠ main_v6) (h0 : b ∉ hostOps0_W) :
    atEnd m c (Proc.devRef .tc b) = m ((c : Thread nD τ).loc b) :=
  (StableHlo.after_of_writes_sub hostOps2 _ hostOps2_writes h8).trans <| (afterRec_of m c b h7).trans <|
    (afterProj_of m c b h6).trans <| (V1_of m c b h0).trans rfl

/-- The two calls' proof data. -/
def dats : (p : Fin 2) → (c : Dev nD) → Dat τ (Elt F) Unit ℕ (UR sig nD τ) ℕ (cfgs p) c
  | ⟨0, _⟩ => dat0 (V1 m)
  | ⟨1, _⟩ => dat1 (afterProj m)

/-- The projection as a segment. -/
def call0 : RegionSeg (pcfgs (F := F)) adm (dats m) () defs₀ Variants.none levs lev 0 :=
  region (dats m) 0 launch0.toP (V1 m) (afterProj m)
    (fun c => body0 (V1 m) c) (fun c => (dat0 (V1 m) c).share_full fun _ => rfl) (fun _ _ => rfl) (fun _ _ => rfl)
    (fun c w => dat0_A (V1 m) c w)
    (fun c w => by
      match w with
      | ⟨0, _⟩ => exact ((dat0 (V1 m) c).arrAt_in 0 rfl _).trans (afterProj_of m c main_v5 (by decide)).symm
      | ⟨1, _⟩ => exact ((dat0 (V1 m) c).arrAt_in 1 rfl _).trans (afterProj_of m c main_v2 (by decide)).symm
      | ⟨2, _⟩ => exact (afterProj_v6 m c).symm)
    (fun c b h => afterProj_of m c b (h 2))
    (fun c => .rfl) (fun c => .rfl)

/-- The recurrence as a segment. -/
def call1 : RegionSeg (pcfgs (F := F)) adm (dats m) () defs₀ Variants.none levs lev 1 :=
  region (dats m) 1 launch1.toP (afterProj m) (afterRec m)
    (fun c => body1 (afterProj m) c) (fun c => (dat1 (afterProj m) c).share_full fun _ => rfl) (fun _ _ => rfl) (fun _ _ => rfl)
    (fun c w => dat1_A (afterProj m) c w)
    (fun c w => by
      match w with
      | ⟨0, _⟩ => exact ((dat1 (afterProj m) c).arrAt_in 0 rfl _).trans (afterRec_of m c main_v6 (by decide)).symm
      | ⟨1, _⟩ => exact ((dat1 (afterProj m) c).arrAt_in 1 rfl _).trans (afterRec_of m c main_v4 (by decide)).symm
      | ⟨2, _⟩ => exact (afterRec_v7 m c).symm)
    (fun c b h => afterRec_of m c b (h 2))
    (fun c => enter1 (afterProj m) c) (fun c => leave1 (afterProj m) c)

/-- The host's operations before the calls. -/
def host0 : HostSeg (Ix := Unit) (Name := ℕ) (U := UR sig nD τ) (Lvl := ℕ) (pcfgs (F := F)) defs₀ Variants.none levs lev :=
  HostSeg.ofOps _ _ _ _ _ (ucRefs τ sig) hostOps0
    (fun op h => Pipeline.sub_ucRefs op ((List.forall_iff_forall_mem.mp hostOps0_sub) op h))
    (fun op h => (List.forall_iff_forall_mem.mp hostOps0_fresh) op h) (V0 m) idle
/-- The host's operation after them. -/
def host2 : HostSeg (Ix := Unit) (Name := ℕ) (U := UR sig nD τ) (Lvl := ℕ) (pcfgs (F := F)) defs₀ Variants.none levs lev :=
  HostSeg.ofOps _ _ _ _ _ (ucRefs τ sig) hostOps2
    (fun op h => Pipeline.sub_ucRefs op ((List.forall_iff_forall_mem.mp hostOps2_sub) op h))
    (fun op h => (List.forall_iff_forall_mem.mp hostOps2_fresh) op h) (afterRec m) idle

/-- The program's items. -/
abbrev items : List (Seg (pcfgs (F := F)) adm (dats m) () defs₀ Variants.none levs lev) :=
  [.host (host0 m), .region (call0 m), .region (call1 m), .host (host2 m)]

-- the run's rule is met by unifying its conclusion, which takes unfolding plain definitions
set_option backward.isDefEq.respectTransparency.types false in
/-- Every execution of the program ends, each unscoped buffer at `atEnd` and every semaphore counter at zero. -/
theorem run (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = atEnd m c (Proc.devRef .tc b))
      ∧ r.2.sem = fun _ => 0) := by
  refine Pipeline.θ_run_regions_kit_dev_sems (pcfgs (F := F)) adm (dats m) () cellOf_inj emb₁ defs₀ Variants.none levs lev m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (O₀ := 0) (fun _ _ => rfl)
    (G := fun _ => iprop(emp)) (u₀ := initOf (Pipeline.cells cfgs cellOf_inj) (Pipeline.launchToks cfgs cellOf_inj))
    (hu₀ := ?_)
    (T₀ := at_ (V0 m))
    (Tₙ := fun c => StableHlo.held (c : Thread nD τ) (ucRefs τ sig) (atEnd m c))
    (hch := fun c => ⟨.rfl, .rfl, .rfl, .rfl, ?_⟩)
    (hinit := ?_)
    (QY := fun c s => ∀ b : Ref sig .tc, b.isScoped = false → s.mem ((c.tc : Thread nD τ).loc b) = atEnd m c (Proc.devRef .tc b))
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · exact (show iprop(StableHlo.held (c : Thread nD τ) (ucRefs τ sig) (atEnd m c) ∗ idle c) ⊢ (_ : sProp 𝕄) from by
      unfold idle
      iintro ⟨Hh, -, HO⟩
      isplitl [Hh] <;> iassumption)
  · refine Pipeline.initEach levs lev fun c => ?_
    rw [show unscopedBufs c (fun b => m ((c.tc : Thread nD τ).loc b)) = StableHlo.held (c.tc : Thread nD τ) (ucRefs τ sig) (V0 m c)
      from Pipeline.unscopedBufs_held (Ix := Unit) (Name := ℕ) (U := UR sig nD τ) (Lvl := ℕ) c (V0 m c)]
    unfold at_ idle
    iintro ⟨⟨Hh, -, HO, -, Hp, -⟩, -⟩
    imodintro
    isplitl [Hh]; · iexact Hh
    isplitl [Hp]; · iexists _; iexact Hp
    iexists _; iexact HO
  · unfold StableHlo.held
    iintro ⟨Hh, HSI⟩
    ihave Hr := (pointsTo_read_all (ucRefs τ sig) (fun b => ((c : Thread nD τ).1, b)) (atEnd m c) s') $$ [Hh HSI]
    · isplitl [Hh] <;> iassumption
    icases Hr with ⟨%h, HSI⟩
    imodintro
    isplitr
    · ipureintro
      exact fun b hb => h (Proc.devRef .tc b) (Pipeline.devRef_mem_ucRefs hb)
    · iexact HSI

/-- The run's frame: the arguments end as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c main_arg0 rfl).trans (atEnd_of m c main_arg0 (by decide) (by decide) (by decide) (by decide)),
      (h.1 c main_arg1 rfl).trans (atEnd_of m c main_arg1 (by decide) (by decide) (by decide) (by decide)),
      (h.1 c main_arg2 rfl).trans (atEnd_of m c main_arg2 (by decide) (by decide) (by decide) (by decide))⟩, h.2⟩) (run m ρ)

end Cert.Proof.Esn

end
-- ==== Proof.Frames.lean ====
/- The three programs' frames. `Kernel` and `KernelIdeal` are the same program under two names, so what the run of the
   second shows for any float values holds of the first; the reference has no semaphore at all. -/
module

public import proofs.«01_k».proof.Proof.Run
public import proofs.«01_k».proof.Proof.Gen.Kernel
public import proofs.«01_k».proof.Proof.Gen.ReferenceIdeal.Run

@[expose] public section

noncomputable section

namespace Cert.Proof.Esn

open Idealize.ShloMosaic Idealize.ShloMosaic.TcCoe
open Idealize.SL Idealize.SL.Sem

variable {F : FTy → Type} [FloatOps F]

/-- The two programs' kernels are the same, -/
theorem same_kernels : (Cert.Kernel.defs₀ (F := F)) = Cert.KernelIdeal.defs₀ (F := F) := by
  unfold Cert.Kernel.defs₀ Cert.KernelIdeal.defs₀
  refine congrArg Defs.onTc (funext fun l => ?_)
  match l with
  | 0 => exact funext fun (t, s) => rfl
  | 1 => exact funext fun (t, s) => rfl

/-- and so are their pipelines, -/
theorem same_pipelines : (Cert.Kernel.pcfgs (F := F)) = Cert.KernelIdeal.pcfgs (F := F) := by
  funext p
  match p with
  | 0 => rfl
  | 1 => rfl

/-- and pipelines and kernels alike make the same bodies. -/
theorem bodies_of_same {sig : RefSig} {nD : ℕ} {τ : Topo} {Λ₀ : Labels} {Val : EltTy → Type}
    {p p' : Fin 2 → Pipeline.PCfg sig Λ₀ Val} (h : p = p') {d d' : Defs nD τ sig Val Λ₀} (h' : d = d') :
    HEq (Pipeline.defs p d) (Pipeline.defs p' d') := by
  subst h; subst h'; rfl

/-- The two programs' bodies are the same. -/
theorem same_bodies : (Cert.Kernel.defs (F := F)) = Cert.KernelIdeal.defs (F := F) :=
  eq_of_heq (bodies_of_same same_pipelines same_kernels)

section
open Cert.Kernel

/-- The kernel's frame: every execution ends, the arguments as launched and every semaphore counter at zero. -/
theorem frame_kernel (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [same_bodies]
  exact frame m ρ
end

section
open Cert.ReferenceIdeal

/-- The reference has no semaphore. -/
theorem no_semaphore : ∀ _ : SemLoc Cert.ReferenceIdeal.sig, False := by decide

/-- The reference's frame. -/
theorem frame_reference (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2, funext fun g => (no_semaphore g.2).elim⟩)
    (Cert.ReferenceIdeal.Value.run m ρ)
end

end Cert.Proof.Esn

end
-- ==== Proof.Math.lean ====
/- The recurrence as plain sums over the extended reals: what both programs compute, with no buffers in it. -/
module

public import Idealize.ShloMosaic.PureOps.Ideal.Laws

@[expose] public section

noncomputable section

namespace Cert.Proof.Esn

open Idealize.ShloMosaic
open scoped BigOperators

/-- The place `k` among the first half of the 4096 units. -/
abbrev lower (k : Fin 2048) : Fin 4096 := ⟨k.val, Nat.lt_trans k.isLt (by decide)⟩

/-- The place `k` among the second half of the 4096 units. -/
abbrev upper (k : Fin 2048) : Fin 4096 := ⟨2048 + k.val, Nat.add_lt_add_left k.isLt 2048⟩

/-- A sum over the 4096 units is the sum over the first half plus the sum over the second. -/
theorem sum_halves (f : Fin 4096 → EReal) : ∑ k, f k = ∑ k, f (lower k) + ∑ k, f (upper k) :=
  Fin.sum_univ_add (a := 2048) (b := 2048) f

section
variable (x : Fin 512 → Fin 256 → EReal) (wi : Fin 4096 → Fin 256 → EReal) (wr : Fin 4096 → Fin 4096 → EReal)

/-- The input's contribution to unit `j` at time `t`. -/
def drive (t : Fin 512) (j : Fin 4096) : EReal := ∑ k, x t k * wi j k

/-- One step: the hyperbolic tangent of the input's contribution and the recurrent one, the latter in two halves. -/
def advance (t : Fin 512) (s : Fin 4096 → EReal) (j : Fin 4096) : EReal :=
  FloatOps.tanh (F := Ideal) (φ := .f32)
    (drive x wi t j + (∑ k, s (lower k) * wr j (lower k) + ∑ k, s (upper k) * wr j (upper k)))

/-- The same step with the factors exchanged and the recurrent sum in one piece. -/
theorem advance_eq (t : Fin 512) (s : Fin 4096 → EReal) (j : Fin 4096) :
    advance x wi wr t s j
      = FloatOps.tanh (F := Ideal) (φ := .f32) (∑ k, wi j k * x t k + ∑ k, wr j k * s k) := by
  unfold advance drive
  rw [sum_halves fun k => wr j k * s k]
  simp only [mul_comm]

/-- The units' values before time `n`: zero at first, then one step for each time. -/
def units : ℕ → Fin 4096 → EReal
  | 0 => fun _ => 0
  | n + 1 => if h : n < 512 then advance x wi wr ⟨n, h⟩ (units n) else units n

/-- The units' values after time `t` are one step from those before it. -/
theorem units_succ (t : Fin 512) : units x wi wr (t.val + 1) = advance x wi wr t (units x wi wr t.val) :=
  dif_pos t.isLt

end

end Cert.Proof.Esn

end
-- ==== Proof.KernelValue.lean ====
/- What the kernel's program leaves in its result over the extended reals: row `t` holds the units' values after time `t`. -/
module

public import proofs.«01_k».proof.Proof.Run
public import proofs.«01_k».proof.Proof.Math
public import Idealize.ShloMosaic.Lib.Pipeline.ValueKit
public import Idealize.ShloMosaic.Lib.MatmulPlain
public import Idealize.ShloMosaic.Lib.ValueLayout

@[expose] public section

set_option maxRecDepth 16384

noncomputable section

namespace Cert.Proof.Esn

open Cert.KernelIdeal Cert.KernelIdeal.Gen
open Idealize.ShloMosaic hiding ix1 ix2 ix3 eq_ix3
open Idealize.ShloMosaic.TcCoe Idealize.ShloMosaic.ValueIdx
open Idealize.ShloMosaic.Pipeline (Dat arrRef)
open scoped BigOperators

variable (m : (ℓ : Loc nD τ sig) → Buf (Elt Ideal) ℓ) (c : Dev nD)

/-- The input sequence, from the first argument. -/
def xs (t : Fin 512) (k : Fin 256) : EReal := m ((c : Thread nD τ).loc main_arg0) (ix3 t k (0 : Fin 1))
/-- The input weights, from the second argument. -/
def wis (j : Fin 4096) (k : Fin 256) : EReal := m ((c : Thread nD τ).loc main_arg1) (ix2 j k)
/-- The recurrent weights, from the third argument. -/
def wrs (j k : Fin 4096) : EReal := m ((c : Thread nD τ).loc main_arg2) (ix2 j k)

/-! ## The arrays before the calls -/

/-- The first call's left operand, as the host prepares it. -/
theorem V1_v5 : V1 m c (Proc.devRef .tc main_v5)
    = broadcastInDim S512x1x256 ![0, 2] bcast_S512x256_S512x1x256_0_2
        (shapeCast S512x256 (m ((c : Thread nD τ).loc main_arg0)) shapeCasts_S512x256x1_S512x256) := by
  unfold V1; after_results; rfl

/-- The first call's right operand. -/
theorem V1_v2 : V1 m c (Proc.devRef .tc main_v2)
    = (truncf (F := Ideal) (φ := .f32) .bf16 (transpose S256x4096 [1, 0] (m ((c : Thread nD τ).loc main_arg1)) transposes_S4096x256_S256x4096_1_0)
        bitsLt_bf16_f32 : FVec Ideal S256x4096 .bf16) := by
  unfold V1; after_results

/-- The second call's right operand. -/
theorem V1_v4 : V1 m c (Proc.devRef .tc main_v4)
    = (truncf (F := Ideal) (φ := .f32) .bf16 (transpose S4096x4096 [1, 0] (m ((c : Thread nD τ).loc main_arg2)) transposes_S4096x4096_S4096x4096_1_0)
        bitsLt_bf16_f32 : FVec Ideal S4096x4096 .bf16) := by
  unfold V1; after_results

/-- Row `t` of the first call's left operand is the input at time `t`. -/
theorem v5_apply (t : Fin 512) (k : Fin 256) :
    V1 m c (Proc.devRef .tc main_v5) (ix3 t (0 : Fin 1) k : S512x1x256.Idx) = xs m c t k := by
  rw [V1_v5]
  refine (broadcastInDim_apply (s := S512x256) (t := S512x1x256) _ _ _ _ (ix2 t k) fun a => match a with | ⟨0, _⟩ => rfl | ⟨1, _⟩ => rfl).trans ?_
  exact shapeCast_apply (s := S512x256x1) (t := S512x256) _ _ _ (ix3 t k (0 : Fin 1)) (by
    rw [Shape.rowMajor_val_three, Shape.rowMajor_val_two]
    show (t.val * 256 + k.val) * 1 + 0 = t.val * 256 + k.val
    omega)

/-- The first call's weights are the input weights, transposed. -/
theorem v2_apply (k : Fin 256) (j : Fin 4096) :
    V1 m c (Proc.devRef .tc main_v2) (ix2 k j : S256x4096.Idx) = wis m c j k := by
  rw [V1_v2]
  exact transpose_ix2_apply (a := 4096) (b := 256) _ _ k j

/-- The second call's weights are the recurrent weights, transposed. -/
theorem v4_apply (k j : Fin 4096) :
    V1 m c (Proc.devRef .tc main_v4) (ix2 k j : S4096x4096.Idx) = wrs m c j k := by
  rw [V1_v4]
  exact transpose_ix2_apply (a := 4096) (b := 4096) _ _ k j

/-! ## The blocks -/

/-- The projection's block indices: its row windows stand at row `t`, its weights' at the whole. -/
theorem index0 : ∀ t : Fin cfg0.N, win0_0.index t = ![t.val, 0, 0] ∧ win0_1.index t = ![0, 0] ∧ win0_2.index t = ![t.val, 0, 0] :=
  (by decide +kernel : ∀ t : Fin grid0.N, _)

/-- The recurrence's block indices: likewise. -/
theorem index1 : ∀ t : Fin cfg1.N, win1_0.index t = ![t.val, 0, 0] ∧ win1_1.index t = ![0, 0] ∧ win1_2.index t = ![t.val, 0, 0] :=
  (by decide +kernel : ∀ t : Fin grid1.N, _)

section Blocks
variable (V : Valuation τ sig (Elt Ideal))

/-- Block `t` of the projection's left operand is its row `t`. -/
theorem block0_x (t : Fin cfg0.N) (k : Fin 256) :
    block0 V 0 t (ix3 (0 : Fin 1) (0 : Fin 1) k : S1x1x256.Idx)
      = V (Proc.devRef .tc main_v5) (ix3 (⟨t.val, t.isLt⟩ : Fin 512) (0 : Fin 1) k : S512x1x256.Idx) := by
  refine congrArg (V (Proc.devRef .tc main_v5)) (funext fun a => Fin.ext ?_)
  blk_simp [(index0 t).1]
  match a with
  | ⟨0, _⟩ => show t.val * 1 + 0 = t.val; omega
  | ⟨1, _⟩ => rfl
  | ⟨2, _⟩ => show 0 * 256 + k.val = k.val; omega

/-- Every block of the projection's weights is the whole of them. -/
theorem block0_w (t : Fin cfg0.N) (k : Fin 256) (j : Fin 4096) :
    block0 V 1 t (ix2 k j : S256x4096.Idx) = V (Proc.devRef .tc main_v2) (ix2 k j : S256x4096.Idx) := by
  refine congrArg (V (Proc.devRef .tc main_v2)) (funext fun a => Fin.ext ?_)
  blk_simp [(index0 t).2.1]
  match a with
  | ⟨0, _⟩ => show 0 * 256 + k.val = k.val; omega
  | ⟨1, _⟩ => show 0 * 4096 + j.val = j.val; omega

/-- Block `t` of the recurrence's left operand is its row `t`. -/
theorem block1_u (t : Fin cfg1.N) (j : Fin 4096) :
    block1 V 0 t (ix3 (0 : Fin 1) (0 : Fin 1) j : S1x1x4096.Idx)
      = V (Proc.devRef .tc main_v6) (ix3 (⟨t.val, t.isLt⟩ : Fin 512) (0 : Fin 1) j : S512x1x4096.Idx) := by
  refine congrArg (V (Proc.devRef .tc main_v6)) (funext fun a => Fin.ext ?_)
  blk_simp [(index1 t).1]
  match a with
  | ⟨0, _⟩ => show t.val * 1 + 0 = t.val; omega
  | ⟨1, _⟩ => rfl
  | ⟨2, _⟩ => show 0 * 4096 + j.val = j.val; omega

/-- Every block of the recurrent weights is the whole of them. -/
theorem block1_w (t : Fin cfg1.N) (k j : Fin 4096) :
    block1 V 1 t (ix2 k j : S4096x4096.Idx) = V (Proc.devRef .tc main_v4) (ix2 k j : S4096x4096.Idx) := by
  refine congrArg (V (Proc.devRef .tc main_v4)) (funext fun a => Fin.ext ?_)
  blk_simp [(index1 t).2.1]
  match a with
  | ⟨0, _⟩ => show 0 * 4096 + k.val = k.val; omega
  | ⟨1, _⟩ => show 0 * 4096 + j.val = j.val; omega

end Blocks

/-! ## The bodies' arithmetic -/

/-- The zero the products are added to. -/
theorem zero_acc (i : S1x4096.Idx) : (constant S1x4096 .f32 0x00000000#32 : FVec Ideal S1x4096 .f32) i = 0 :=
  Ideal.ofBits_zero_f32

/-- The projection's body: one row times the weights. -/
theorem proj_apply (a : FVec Ideal S1x1x256 .f32) (b : FVec Ideal S256x4096 .bf16) (j : Fin 4096) :
    k0_pay1 a b (ix3 (0 : Fin 1) (0 : Fin 1) j : S1x1x4096.Idx)
      = ∑ k : Fin 256, a (ix3 (0 : Fin 1) (0 : Fin 1) k : S1x1x256.Idx) * b (ix2 k j : S256x4096.Idx) := by
  unfold k0_pay1
  refine (shapeCast_ab_1ab_apply (a := 1) (b := 4096) _ _ 0 0 j).trans ?_
  refine (Ideal.matmul_plain_apply (M := 1) (K := 256) (N := 4096) none _ _ _ 0 j).trans ?_
  rw [zero_acc, zero_add, shapeCast_id]
  refine Finset.sum_congr rfl fun k _ => congrArg (· * _) ?_
  exact shapeCast_1ab_ab_apply (a := 1) (b := 256) _ _ 0 k

/-- A row of the first half of the weights is that row of them. -/
theorem topRows_apply (w : FVec Ideal S4096x4096 .bf16) (k : Fin 2048) (j : Fin 4096) :
    topRows (F := Ideal) w (ix2 k j : S2048x4096.Idx) = w (ix2 (lower k) j : S4096x4096.Idx) :=
  congrArg w (funext fun a => Fin.ext (match a with
    | ⟨0, _⟩ => (ValueKit.rect_emb_unit_val _ _ _ _ _).trans (Nat.zero_add _)
    | ⟨1, _⟩ => (ValueKit.rect_emb_unit_val _ _ _ _ _).trans (Nat.zero_add _)))

/-- A row of the second half is the row 2048 places further. -/
theorem lowRows_apply (w : FVec Ideal S4096x4096 .bf16) (k : Fin 2048) (j : Fin 4096) :
    lowRows (F := Ideal) w (ix2 k j : S2048x4096.Idx) = w (ix2 (upper k) j : S4096x4096.Idx) :=
  congrArg w (funext fun a => Fin.ext (match a with
    | ⟨0, _⟩ => ValueKit.rect_emb_unit_val _ _ _ _ _
    | ⟨1, _⟩ => (ValueKit.rect_emb_unit_val _ _ _ _ _).trans (Nat.zero_add _)))

/-- The first half of the recurrent product. -/
theorem first_half (s : FVec Ideal S1x4096 .f32) (w : FVec Ideal S4096x4096 .bf16) (j : Fin 4096) :
    k1_pay3 s (topRows w) (ix2 (0 : Fin 1) j : S1x4096.Idx)
      = ∑ k : Fin 2048, s (ix2 (0 : Fin 1) (lower k) : S1x4096.Idx) * w (ix2 (lower k) j : S4096x4096.Idx) := by
  unfold k1_pay3
  rw [shapeCast_id, shapeCast_id]
  refine (Ideal.matmul_plain_apply (M := 1) (K := 2048) (N := 4096) none _ _ _ 0 j).trans ?_
  rw [zero_acc, zero_add]
  refine Finset.sum_congr rfl fun k _ => congrArg₂ (· * ·) ?_ (topRows_apply w k j)
  exact extractStridedSlice_apply (s := S1x4096) (t := S1x2048) _ _ _ _ _ fun a => match a with
    | ⟨0, _⟩ => rfl
    | ⟨1, _⟩ => (Nat.zero_add _).symm

/-- The second half of the recurrent product. -/
theorem second_half (s : FVec Ideal S1x4096 .f32) (w : FVec Ideal S4096x4096 .bf16) (j : Fin 4096) :
    k1_pay4 s (lowRows w) (ix2 (0 : Fin 1) j : S1x4096.Idx)
      = ∑ k : Fin 2048, s (ix2 (0 : Fin 1) (upper k) : S1x4096.Idx) * w (ix2 (upper k) j : S4096x4096.Idx) := by
  unfold k1_pay4
  rw [shapeCast_id, shapeCast_id]
  refine (Ideal.matmul_plain_apply (M := 1) (K := 2048) (N := 4096) none _ _ _ 0 j).trans ?_
  rw [zero_acc, zero_add]
  refine Finset.sum_congr rfl fun k _ => congrArg₂ (· * ·) ?_ (lowRows_apply w k j)
  exact extractStridedSlice_apply (s := S1x4096) (t := S1x2048) _ _ _ _ _ fun a => match a with
    | ⟨0, _⟩ => rfl
    | ⟨1, _⟩ => rfl

/-- The recurrence's body at a unit. -/
theorem nextState_apply (u : FVec Ideal S1x1x4096 .f32) (w : FVec Ideal S4096x4096 .bf16) (s : FVec Ideal S1x4096 .f32) (j : Fin 4096) :
    nextState u w s (ix2 (0 : Fin 1) j : S1x4096.Idx)
      = FloatOps.tanh (F := Ideal) (φ := .f32) (u (ix3 (0 : Fin 1) (0 : Fin 1) j : S1x1x4096.Idx)
          + (∑ k : Fin 2048, s (ix2 (0 : Fin 1) (lower k) : S1x4096.Idx) * w (ix2 (lower k) j : S4096x4096.Idx)
            + ∑ k : Fin 2048, s (ix2 (0 : Fin 1) (upper k) : S1x4096.Idx) * w (ix2 (upper k) j : S4096x4096.Idx))) := by
  rw [← first_half, ← second_half]
  have e : shapeCast S1x4096 u shapeCasts_S1x1x4096_S1x4096 (ix2 (0 : Fin 1) j : S1x4096.Idx)
      = u (ix3 (0 : Fin 1) (0 : Fin 1) j : S1x1x4096.Idx) := shapeCast_1ab_ab_apply (a := 1) (b := 4096) _ _ 0 j
  rw [← e]
  rfl

/-! ## The projection's result -/

/-- What the projection leaves: the input's contribution at each time and unit. -/
def drives : FVec Ideal S512x1x4096 .f32 := fun i => drive (xs m c) (wis m c) (i 0) (i 2)

/-- The projection's result array at the end. -/
theorem v6_final : (dat0 (V1 m) c).arrAt 2 cfg0.N = drives m c := by
  refine (dat0 (V1 m) c).arrAt_eq_of_covers 2 _ (by decide +kernel) fun t _ y => ?_
  have hy : y = (ix3 (0 : Fin 1) (0 : Fin 1) (y 2) : S1x1x4096.Idx) := by
    rw [eq_ix3 (n0 := 1) (n1 := 1) (n2 := 4096) y]
    exact congrArg₂ (fun a b => ix3 a b (y 2)) (Subsingleton.elim (α := Fin 1) _ _) (Subsingleton.elim (α := Fin 1) _ _)
  have e0 : (((cfg0.win 2).blk t).view.emb y : S512x1x4096.Idx) 0 = (⟨t.val, t.isLt⟩ : Fin 512) := by
    refine Fin.ext ?_
    blk_simp [(index0 t).2.2]
  have e2 : (((cfg0.win 2).blk t).view.emb y : S512x1x4096.Idx) 2 = y 2 := by
    refine Fin.ext ?_
    blk_simp [(index0 t).2.2]
  blk_simp
  rw [dat0_after2]
  unfold drives
  rw [e0, e2]
  conv_lhs => rw [hy]
  refine (proj_apply _ _ (y 2)).trans ?_
  refine Finset.sum_congr rfl fun k _ => congrArg₂ (· * ·) ?_ ?_
  · exact (block0_x _ t k).trans (v5_apply m c _ k)
  · exact (block0_w _ t k _).trans (v2_apply m c k _)

/-- Row `t` of what the recurrence reads is the input's contribution at time `t`. -/
theorem v6_apply (t : Fin 512) (j : Fin 4096) :
    afterProj m c (Proc.devRef .tc main_v6) (ix3 t (0 : Fin 1) j : S512x1x4096.Idx) = drive (xs m c) (wis m c) t j := by
  rw [afterProj_v6, v6_final]
  rfl

/-! ## The recurrence's result -/

/-- The state before a point is the units' values before that time. -/
theorem stateAt_apply (n : ℕ) (hn : n ≤ 512) : ∀ j : Fin 4096,
    stateAt (afterProj m c) n (ix2 (0 : Fin 1) j : S1x4096.Idx) = units (xs m c) (wis m c) (wrs m c) n j := by
  induction n with
  | zero =>
    intro j
    show k1_pay2 (F := Ideal) _ = 0
    unfold k1_pay2
    rw [shapeCast_id]
    exact Ideal.ofBits_zero_f32
  | succ n ih =>
    intro j
    have ih := ih (Nat.le_of_succ_le hn)
    refine (congrFun (stateAt_succ (afterProj m c) ⟨n, hn⟩) _).trans ?_
    refine Eq.trans ?_ (congrFun (units_succ (xs m c) (wis m c) (wrs m c) ⟨n, hn⟩) j).symm
    refine (nextState_apply _ _ _ j).trans ?_
    have hw : ∀ k : Fin 4096, block1 (afterProj m c) 1 ⟨n, hn⟩ (ix2 k j : S4096x4096.Idx) = wrs m c j k := fun k =>
      (block1_w _ _ k j).trans ((congrFun (afterProj_of m c main_v4 (by decide)) _).trans (v4_apply m c k j))
    have hu : block1 (afterProj m c) 0 ⟨n, hn⟩ (ix3 (0 : Fin 1) (0 : Fin 1) j : S1x1x4096.Idx) = drive (xs m c) (wis m c) ⟨n, hn⟩ j :=
      (block1_u _ _ j).trans (v6_apply m c _ j)
    unfold advance
    rw [hu]
    simp only [hw, ih]

/-- What the recurrence leaves: the units' values after each time. -/
def results : FVec Ideal S512x1x4096 .f32 := fun i => units (xs m c) (wis m c) (wrs m c) ((i 0).val + 1) (i 2)

/-- The recurrence's result array at the end. -/
theorem v7_final : (dat1 (afterProj m) c).arrAt 2 cfg1.N = results m c := by
  refine (dat1 (afterProj m) c).arrAt_eq_of_covers 2 _ (by decide +kernel) fun t _ y => ?_
  have hy : y = (ix3 (0 : Fin 1) (0 : Fin 1) (y 2) : S1x1x4096.Idx) := by
    rw [eq_ix3 (n0 := 1) (n1 := 1) (n2 := 4096) y]
    exact congrArg₂ (fun a b => ix3 a b (y 2)) (Subsingleton.elim (α := Fin 1) _ _) (Subsingleton.elim (α := Fin 1) _ _)
  have e0 : (((cfg1.win 2).blk t).view.emb y : S512x1x4096.Idx) 0 = (⟨t.val, t.isLt⟩ : Fin 512) := by
    refine Fin.ext ?_
    blk_simp [(index1 t).2.2]
  have e2 : (((cfg1.win 2).blk t).view.emb y : S512x1x4096.Idx) 2 = y 2 := by
    refine Fin.ext ?_
    blk_simp [(index1 t).2.2]
  blk_simp
  rw [dat1_after2]
  unfold results
  rw [e0, e2]
  conv_lhs => rw [hy]
  unfold k1_pay1
  exact (shapeCast_ab_1ab_apply (a := 1) (b := 4096) _ _ 0 0 (y 2)).trans (stateAt_apply m c (t.val + 1) t.isLt (y 2))

/-- The program's result is the recurrence's, with its unit axis dropped. -/
theorem v8_final : atEnd m c (Proc.devRef .tc main_v8)
    = shapeCast S512x4096 (results m c) shapeCasts_S512x1x4096_S512x4096 := by
  rw [← v7_final, ← afterRec_v7]
  unfold atEnd
  after_results
  rfl

/-- **The kernel's value**: row `t` of the program's result holds the units' values after time `t`. -/
theorem result_apply (t : Fin 512) (j : Fin 4096) :
    atEnd m c (Proc.devRef .tc main_v8) (ix2 t j : S512x4096.Idx) = units (xs m c) (wis m c) (wrs m c) (t.val + 1) j := by
  rw [v8_final]
  exact shapeCast_apply (s := S512x1x4096) (t := S512x4096) _ _ _ (ix3 t (0 : Fin 1) j) (by
    rw [Shape.rowMajor_val_three, Shape.rowMajor_val_two]
    show (t.val * 1 + 0) * 4096 + j.val = t.val * 4096 + j.val
    omega)

end Cert.Proof.Esn

end
-- ==== Proof.ReferenceValue.lean ====
/- What the reference leaves in its result over the extended reals: row `t` holds the units' values after time `t`. -/
module

public import proofs.«01_k».proof.Proof.Gen.ReferenceIdeal.Run
public import proofs.«01_k».proof.Proof.Math
public import Idealize.ShloMosaic.Lib.StackMember
public import Idealize.ShloMosaic.Lib.ValueLayout
public import Idealize.ShloMosaic.Lib.Pointwise.ShapeOpsCore

@[expose] public section

set_option maxRecDepth 16384

noncomputable section

namespace Cert.Proof.EsnRef

open Cert.ReferenceIdeal Cert.ReferenceIdeal.Gen Cert.ReferenceIdeal.Value
open Cert.Proof.Esn (units units_succ advance advance_eq)
open Idealize.ShloMosaic hiding ix1 ix2 ix3 eq_ix2 eq_ix3
open Idealize.ShloMosaic.TcCoe Idealize.ShloMosaic.ValueIdx
open Idealize.ShloMosaic.StableHlo Idealize.ShloMosaic.StackMember
open scoped BigOperators

variable (x : Fin 512 → Fin 256 → EReal) (wi : Fin 4096 → Fin 256 → EReal) (wr : Fin 4096 → Fin 4096 → EReal)

/-- What the loop carries after `n` trips: the inputs, the counter `n`, the units' values after `n` steps, and the
    result with its first `n` rows written. -/
structure Carried (n : ℕ) (V : Valuation τ sig (Elt Ideal)) : Prop where
  input : ∀ t k, V (Proc.devRef .tc main_v2_0) (ix3 t k (0 : Fin 1) : S512x256x1.Idx) = x t k
  inWeights : ∀ j k, V (Proc.devRef .tc main_v2_1) (ix2 j k : S4096x256.Idx) = wi j k
  resWeights : ∀ j k, V (Proc.devRef .tc main_v2_2) (ix2 j k : S4096x4096.Idx) = wr j k
  counter : V (Proc.devRef .tc main_v2_3) = fun _ => BitVec.ofNat 32 n
  state : ∀ j, V (Proc.devRef .tc main_v2_4) (ix2 j (0 : Fin 1) : S4096x1.Idx) = units x wi wr n j
  rows : ∀ (t : Fin 512) (j : Fin 4096), t.val < n →
    V (Proc.devRef .tc main_v2_5) (ix2 t j : S512x4096.Idx) = units x wi wr (t.val + 1) j

/-- A small number as a 32-bit word reads back, signed, as itself. -/
theorem word_toInt (n : ℕ) (h : n < 512) : (BitVec.ofNat 32 n).toInt = (n : ℤ) := by
  rw [BitVec.toInt_eq_toNat_cond, BitVec.toNat_ofNat]
  have : n % 2 ^ 32 = n := Nat.mod_eq_of_lt (by omega)
  rw [this, if_pos (by omega)]

variable {x wi wr}

/-- The slice taken in trip `n` is the input at time `n`. -/
theorem slice_apply {n : ℕ} (hn : n < 512) (X : FVec Ideal S512x256x1 .f32) (start : Fin S512x256x1.rank → ℤ)
    (h0 : start 0 = n) (h1 : start 1 = 0) (h2 : start 2 = 0) (k : Fin 256) :
    shapeCast S256x1 (Host.dynamicSlice S1x256x1 X start sliceFits_S512x256x1_S1x256x1) shapeCasts_S1x256x1_S256x1
        (ix2 k (0 : Fin 1) : S256x1.Idx)
      = X (ix3 (⟨n, hn⟩ : Fin 512) k (0 : Fin 1) : S512x256x1.Idx) := by
  have c0 : Host.clampedStart S512x256x1 S1x256x1 sliceFits_S512x256x1_S1x256x1.1 start 0 = n :=
    Host.clampedStart_of_le (s := S512x256x1) (t := S1x256x1) _ start 0 n h0 (show n + 1 ≤ 512 by omega)
  have c1 : Host.clampedStart S512x256x1 S1x256x1 sliceFits_S512x256x1_S1x256x1.1 start 1 = 0 :=
    Host.clampedStart_of_le (s := S512x256x1) (t := S1x256x1) _ start 1 0 h1 (show 0 + 256 ≤ 256 by omega)
  have c2 : Host.clampedStart S512x256x1 S1x256x1 sliceFits_S512x256x1_S1x256x1.1 start 2 = 0 :=
    Host.clampedStart_of_le (s := S512x256x1) (t := S1x256x1) _ start 2 0 h2 (show 0 + 1 ≤ 1 by omega)
  refine (shapeCast_1ab_ab_apply (a := 256) (b := 1) _ _ k 0).trans ?_
  rw [Host.dynamicSlice_apply]
  refine congrArg X (funext fun a => Fin.ext ?_)
  match a with
  | ⟨0, _⟩ => exact congrArg (· + 0) c0
  | ⟨1, _⟩ => exact (congrArg (· + k.val) c1).trans (Nat.zero_add _)
  | ⟨2, _⟩ => exact congrArg (· + 0) c2

/-- The state computed in trip `n` is the units' values after `n + 1` steps. -/
theorem newState_apply {n : ℕ} (hn : n < 512) {V : Valuation τ sig (Elt Ideal)} (h : Carried x wi wr n V) (j : Fin 4096) :
    res_main_while0b_v7 V (ix2 j (0 : Fin 1) : S4096x1.Idx) = units x wi wr (n + 1) j := by
  refine Eq.trans ?_ ((congrFun (units_succ x wi wr ⟨n, hn⟩) j).trans (advance_eq x wi wr ⟨n, hn⟩ _ j)).symm
  unfold res_main_while0b_v7
  refine congrArg (FloatOps.tanh (F := Ideal) (φ := .f32)) (congrArg₂ (· + ·) ?_ ?_)
  · refine (dotGeneral_plain_apply (m := 4096) (k := 256) (n := 1) none _ _ j 0).trans ?_
    refine Finset.sum_congr rfl fun k _ => congrArg₂ (· * ·) (h.inWeights j k) ?_
    refine (slice_apply hn _ _ ?_ rfl rfl k).trans (h.input _ k)
    show (V (Proc.devRef .tc main_v2_3) _).toInt = _
    rw [h.counter]
    exact word_toInt n hn
  · refine (dotGeneral_plain_apply (m := 4096) (k := 4096) (n := 1) none _ _ j 0).trans ?_
    exact Finset.sum_congr rfl fun k _ => congrArg₂ (· * ·) (h.resWeights j k) (h.state k)

/-- The result after a row is written at `n`: that row where it was written, the old one elsewhere. -/
theorem update_apply {n : ℕ} (hn : n < 512) (Y : FVec Ideal S512x4096 .f32) (r : FVec Ideal S1x4096 .f32) (start : Fin S512x4096.rank → ℤ)
    (h0 : start 0 = n) (h1 : start 1 = 0) (t : Fin 512) (j : Fin 4096) :
    Host.dynamicUpdateSlice Y r start updateFits_S512x4096_S1x4096 (ix2 t j : S512x4096.Idx)
      = if t.val = n then r (ix2 (0 : Fin 1) j : S1x4096.Idx) else Y (ix2 t j : S512x4096.Idx) := by
  have c0 : Host.clampedStart S512x4096 S1x4096 updateFits_S512x4096_S1x4096.1 start 0 = n :=
    Host.clampedStart_of_le (s := S512x4096) (t := S1x4096) _ start 0 n h0 (show n + 1 ≤ 512 by omega)
  have c1 : Host.clampedStart S512x4096 S1x4096 updateFits_S512x4096_S1x4096.1 start 1 = 0 :=
    Host.clampedStart_of_le (s := S512x4096) (t := S1x4096) _ start 1 0 h1 (show 0 + 4096 ≤ 4096 by omega)
  rw [Host.dynamicUpdateSlice_apply]
  by_cases ht : t.val = n
  · rw [if_pos ht, dif_pos]
    · refine congrArg r (funext fun a => Fin.ext ?_)
      match a with
      | ⟨0, _⟩ =>
        show t.val - Host.clampedStart S512x4096 S1x4096 _ start 0 = 0
        rw [c0, ht, Nat.sub_self]
      | ⟨1, _⟩ =>
        show j.val - Host.clampedStart S512x4096 S1x4096 _ start 1 = j.val
        rw [c1, Nat.sub_zero]
    · intro a
      match a with
      | ⟨0, _⟩ =>
        show Host.clampedStart S512x4096 S1x4096 _ start 0 ≤ t.val ∧ t.val < Host.clampedStart S512x4096 S1x4096 _ start 0 + 1
        rw [c0]; omega
      | ⟨1, _⟩ =>
        show Host.clampedStart S512x4096 S1x4096 _ start 1 ≤ j.val ∧ j.val < Host.clampedStart S512x4096 S1x4096 _ start 1 + 4096
        rw [c1]; have := j.isLt; omega
  · rw [if_neg ht, dif_neg]
    intro hin
    have h := hin 0
    have h : Host.clampedStart S512x4096 S1x4096 updateFits_S512x4096_S1x4096.1 start 0 ≤ t.val
        ∧ t.val < Host.clampedStart S512x4096 S1x4096 updateFits_S512x4096_S1x4096.1 start 0 + 1 := h
    rw [c0] at h
    omega

/-- One trip carries the invariant on. -/
theorem Carried.step {n : ℕ} (hn : n < 512) {V : Valuation τ sig (Elt Ideal)} (h : Carried x wi wr n V) :
    Carried x wi wr (n + 1) (STEP V) where
  input t k := by rw [STEP_main_v2_0]; exact h.input t k
  inWeights j k := by rw [STEP_main_v2_1]; exact h.inWeights j k
  resWeights j k := by rw [STEP_main_v2_2]; exact h.resWeights j k
  counter := by
    rw [STEP_main_v2_3]
    unfold step_main_v2_3
    rw [h.counter]
    funext i
    show BitVec.ofNat 32 n + 1#32 = BitVec.ofNat 32 (n + 1)
    exact (BitVec.ofNat_add n 1).symm
  state j := by
    rw [STEP_main_v2_4]
    exact newState_apply hn h j
  rows t j ht := by
    rw [STEP_main_v2_5]
    unfold step_main_v2_5
    refine (update_apply hn _ _ _ ?_ rfl t j).trans ?_
    · show (V (Proc.devRef .tc main_v2_3) _).toInt = _
      rw [h.counter]
      exact word_toInt n hn
    by_cases e : t.val = n
    · rw [if_pos e, e]
      refine (broadcastInDim_apply (s := S4096) (t := S1x4096) _ _ _ _ (ix1 j) fun a => match a with | ⟨0, _⟩ => rfl).trans ?_
      refine (shapeCast_apply (s := S4096x1) (t := S4096) _ _ _ (ix2 j (0 : Fin 1)) ?_).trans (newState_apply hn h j)
      rw [Shape.rowMajor_val_two, Shape.rowMajor_val_one]
      show j.val * 1 + 0 = j.val
      omega
    · rw [if_neg e]
      exact h.rows t j (by omega)

/-- After `n` trips the invariant holds at `n`. -/
theorem Carried.iterate {V : Valuation τ sig (Elt Ideal)} (h : Carried x wi wr 0 V) :
    ∀ n, n ≤ 512 → Carried x wi wr n (STEP^[n] V)
  | 0, _ => h
  | n + 1, hn => by
    rw [Function.iterate_succ_apply']
    exact (h.iterate n (Nat.le_of_succ_le hn)).step hn

section
variable (m : (ℓ : Loc nD τ sig) → Buf (Elt Ideal) ℓ) (c : Dev nD)

/-- The input sequence, from the first argument. -/
def xs (t : Fin 512) (k : Fin 256) : EReal := m ((c : Thread nD τ).loc main_arg0) (ix3 t k (0 : Fin 1))
/-- The input weights, from the second argument. -/
def wis (j : Fin 4096) (k : Fin 256) : EReal := m ((c : Thread nD τ).loc main_arg1) (ix2 j k)
/-- The recurrent weights, from the third argument. -/
def wrs (j k : Fin 4096) : EReal := m ((c : Thread nD τ).loc main_arg2) (ix2 j k)

/-- The loop starts with the arguments, the counter and the state at zero, and no row written. -/
theorem entry : Carried (xs m c) (wis m c) (wrs m c) 0 (entryContents preI m c) where
  input t k := by
    have e : entryContents preI m c (Proc.devRef .tc main_v2_0) = m ((c : Thread nD τ).loc main_arg0) := by
      simp only [entryContents, afterL_cons, afterL_nil]; after_results; rfl
    rw [e]; rfl
  inWeights j k := by
    have e : entryContents preI m c (Proc.devRef .tc main_v2_1) = m ((c : Thread nD τ).loc main_arg1) := by
      simp only [entryContents, afterL_cons, afterL_nil]; after_results; rfl
    rw [e]; rfl
  resWeights j k := by
    have e : entryContents preI m c (Proc.devRef .tc main_v2_2) = m ((c : Thread nD τ).loc main_arg2) := by
      simp only [entryContents, afterL_cons, afterL_nil]; after_results; rfl
    rw [e]; rfl
  counter := ctr_entry m c
  state j := by
    have e : entryContents preI m c (Proc.devRef .tc main_v2_4)
        = broadcastInDim S4096x1 ![] bcast_S_S4096x1 (constant S_ .f32 0x00000000#32 : FVec Ideal S_ .f32) := by
      simp only [entryContents, afterL_cons, afterL_nil]; after_results; rfl
    rw [e]
    exact Ideal.ofBits_zero_f32
  rows t j ht := absurd ht (Nat.not_lt_zero _)

/-- **The reference's value**: row `t` of its result holds the units' values after time `t`. -/
theorem result_apply (t : Fin 512) (j : Fin 4096) :
    (STEP^[512] (entryContents preI m c)) (Proc.devRef .tc main_v2_5) (ix2 t j : S512x4096.Idx)
      = units (xs m c) (wis m c) (wrs m c) (t.val + 1) j :=
  ((entry m c).iterate 512 (Nat.le_refl _)).rows t j t.isLt

end

end Cert.Proof.EsnRef

end
-- ==== Proof.lean ====
/- The claim: the kernel's program, its reading over the extended reals and the reference all run, leave their arguments
   unchanged and every semaphore counter at zero; and the last two end with the same result. -/
module

public import proofs.«01_k».proof.Defs
public import proofs.«01_k».proof.Proof.Frames
public import proofs.«01_k».proof.Proof.KernelValue
public import proofs.«01_k».proof.Proof.ReferenceValue
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- From memories that agree on the arguments the two results are the same array. -/
theorem same_result (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2)) :
    (ReferenceIdeal.Value.STEP^[512] (StableHlo.entryContents ReferenceIdeal.Value.preI m' c)) (Proc.devRef .tc ReferenceIdeal.main_v2_5)
      = Esn.atEnd m c (Proc.devRef .tc KernelIdeal.main_v8) := by
  have ex : EsnRef.xs m' c = Esn.xs m c := by
    funext t k; exact congrFun h0 _
  have ei : EsnRef.wis m' c = Esn.wis m c := by
    funext j k; exact congrFun h1 _
  have er : EsnRef.wrs m' c = Esn.wrs m c := by
    funext j k; exact congrFun h2 _
  funext i
  obtain ⟨t, j, rfl⟩ : ∃ (t : Fin 512) (j : Fin 4096), i = ValueIdx.ix2 t j := ⟨i 0, i 1, ValueIdx.eq_ix2 i⟩
  refine (EsnRef.result_apply m' c t j).trans ?_
  rw [ex, ei, er]
  exact (Esn.result_apply m c t j).symm

/-- Over the extended reals the kernel's program and the reference end with equal results. -/
theorem same_value [KernelIdeal.Facts] [ReferenceIdeal.Facts] : Cert.algebraic_KernelIdeal_ReferenceIdeal := by
  intro m g m' g' _ h
  refine ⟨fun c => Esn.atEnd m c (Proc.devRef .tc KernelIdeal.main_v8), ?_, ?_⟩
  · exact (θ_run _ _ _).mono (fun r hr c => ⟨hr.1 c KernelIdeal.main_v8 rfl,
      (hr.1 c KernelIdeal.main_arg0 rfl).trans (Esn.atEnd_of m c KernelIdeal.main_arg0 (by decide) (by decide) (by decide) (by decide)),
      (hr.1 c KernelIdeal.main_arg1 rfl).trans (Esn.atEnd_of m c KernelIdeal.main_arg1 (by decide) (by decide) (by decide) (by decide)),
      (hr.1 c KernelIdeal.main_arg2 rfl).trans (Esn.atEnd_of m c KernelIdeal.main_arg2 (by decide) (by decide) (by decide) (by decide))⟩)
      (Esn.run m g)
  · exact (θ_run _ _ _).mono (fun r hr c =>
      ⟨(hr c).1.trans (same_result m m' c (h c).1 (h c).2.1 (h c).2.2), (hr c).2⟩) (ReferenceIdeal.Value.run m' g')

/-- All five claims. -/
theorem claim : Cert.Claim := ⟨Cert.Kernel.Gen.facts, Cert.KernelIdeal.Gen.facts, Cert.ReferenceIdeal.Gen.facts,
  fun m g _ => Esn.frame_kernel m g, fun m g _ => Esn.frame m g, fun m g _ => Esn.frame_reference m g, trivial, same_value⟩

end Cert.Proof

end
